-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_uniform [hPre_sizes_uniform : Cert.Pre_sizes_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_uniform [hPre_sizes_uniform : Cert.Pre_sizes_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sizes_uniform [hKernelIdeal : Cert.KernelIdeal.Facts] [hPre_sizes_uniform : Cert.Pre_sizes_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_uniform m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sizes_uniform [hReferenceIdeal : Cert.ReferenceIdeal.Facts] [hPre_sizes_uniform : Cert.Pre_sizes_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sizes_uniform [hKernelIdeal : Cert.KernelIdeal.Facts] [hReferenceIdeal : Cert.ReferenceIdeal.Facts] [hPre_sizes_uniform : Cert.Pre_sizes_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sizes_uniform : Cert.Pre_sizes_uniform.Facts),
    quiescent_Kernel (hKernel := hKernel)
    ∧ quiescent_KernelIdeal (hKernelIdeal := hKernelIdeal)
    ∧ quiescent_KernelIdeal_pre_sizes_uniform (hKernelIdeal := hKernelIdeal) (hPre_sizes_uniform := hPre_sizes_uniform)
    ∧ quiescent_ReferenceIdeal (hReferenceIdeal := hReferenceIdeal)
    ∧ quiescent_ReferenceIdeal_pre_sizes_uniform (hReferenceIdeal := hReferenceIdeal) (hPre_sizes_uniform := hPre_sizes_uniform)
    ∧ preserves_Kernel_KernelIdeal
    ∧ algebraic_KernelIdeal_ReferenceIdeal_pre_sizes_uniform (hKernelIdeal := hKernelIdeal) (hReferenceIdeal := hReferenceIdeal) (hPre_sizes_uniform := hPre_sizes_uniform)
-- ==== Pre_sizes_uniform.lean ====
abbrev S320000x128 : Shape := ⟨2, ![320000, 128]⟩
abbrev S10000 : Shape := ⟨1, ![10000]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel

variable [Facts]

def fn {F : FTy → Type} [FloatOps F] (main_arg0 : FVec F S320000x128 .f32) (main_arg1 : IVec S10000 32) : IVec S_ 1 :=
  let main_c : IVec S_ 32 := constantI S_ 32 32#32
  let main_v0 : IVec S10000 32 := broadcastInDim S10000 ![] bcast_S_S10000 main_c
  let main_v1 : IVec S10000 1 := cmpi .eq main_arg1 main_v0
  let main_c_0 : IVec S_ 1 := constantI S_ 1 1#1
  let main_v2 : IVec S_ 1 := (fun x v => Host.reduce IntOp.andi x v reducesTo_S10000_S_d0 h_S_) main_v1 main_c_0
  main_v2
-- ==== Kernel.lean ====
abbrev S320000x128 : Shape := ⟨2, ![320000, 128]⟩
abbrev S10000 : Shape := ⟨1, ![10000]⟩
abbrev S_ : Shape := ⟨0, ![]⟩
abbrev S10000x1 : Shape := ⟨2, ![10000, 1]⟩
abbrev S10000x128 : Shape := ⟨2, ![10000, 128]⟩
abbrev S2560x128 : Shape := ⟨2, ![2560, 128]⟩
abbrev S80x1 : Shape := ⟨2, ![80, 1]⟩
abbrev S80x128 : Shape := ⟨2, ![80, 128]⟩
abbrev S80x32x128 : Shape := ⟨3, ![80, 32, 128]⟩

abbrev nBuf : Space → Nat
  | .hbm => 8
  | .vmem => 6
  | .smem => 0
  | _ => 0

abbrev bufTy : (tb : Table) → Fin (tcTables nBuf tb) → BufTy
  | .hbm, ⟨0, _⟩ => ⟨S320000x128, .f32⟩
  | .hbm, ⟨1, _⟩ => ⟨S10000, .i32⟩
  | .hbm, ⟨2, _⟩ => ⟨S10000, .f32⟩
  | .hbm, ⟨3, _⟩ => ⟨S_, .f32⟩
  | .hbm, ⟨4, _⟩ => ⟨S10000, .f32⟩
  | .hbm, ⟨5, _⟩ => ⟨S10000, .f32⟩
  | .hbm, ⟨6, _⟩ => ⟨S10000x1, .f32⟩
  | .hbm, ⟨7, _⟩ => ⟨S10000x128, .f32⟩
  | .local _ .vmem, ⟨0, _⟩ => ⟨S2560x128, .f32⟩
  | .local _ .vmem, ⟨1, _⟩ => ⟨S2560x128, .f32⟩
  | .local _ .vmem, ⟨2, _⟩ => ⟨S80x1, .f32⟩
  | .local _ .vmem, ⟨3, _⟩ => ⟨S80x1, .f32⟩
  | .local _ .vmem, ⟨4, _⟩ => ⟨S80x128, .f32⟩
  | .local _ .vmem, ⟨5, _⟩ => ⟨S80x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S320000x128 : Shape := ⟨2, ![320000, 128]⟩
abbrev S10000 : Shape := ⟨1, ![10000]⟩
abbrev S1 : Shape := ⟨1, ![1]⟩
abbrev S9999 : Shape := ⟨1, ![9999]⟩
abbrev S_ : Shape := ⟨0, ![]⟩
abbrev S320000 : Shape := ⟨1, ![320000]⟩
abbrev S10000x1 : Shape := ⟨2, ![10000, 1]⟩
abbrev S320000x1 : Shape := ⟨2, ![320000, 1]⟩
abbrev S1x1 : Shape := ⟨2, ![1, 1]⟩
abbrev S10000x128 : Shape := ⟨2, ![10000, 128]⟩

abbrev nBuf : Space → Nat
  | .hbm => 62
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S10000, .i32⟩
  | .hbm, ⟨2, _⟩ => ⟨S10000, .i32⟩
  | .hbm, ⟨3, _⟩ => ⟨S1, .i32⟩
  | .hbm, ⟨4, _⟩ => ⟨S9999, .i32⟩
  | .hbm, ⟨5, _⟩ => ⟨S10000, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S10000, .i32⟩
  | .hbm, ⟨10, _⟩ => ⟨S_, .i32⟩
  | .hbm, ⟨11, _⟩ => ⟨S_, .i32⟩
  | .hbm, ⟨12, _⟩ => ⟨S10000, .i32⟩
  | .hbm, ⟨13, _⟩ => ⟨S_, .i32⟩
  | .hbm, ⟨14, _⟩ => ⟨S320000, .i32⟩
  | .hbm, ⟨15, _⟩ => ⟨S_, .i32⟩
  | .hbm, ⟨16, _⟩ => ⟨S10000, .i32⟩
  | .hbm, ⟨17, _⟩ => ⟨S10000, .i1⟩
  | .hbm, ⟨18, _⟩ => ⟨S_, .i32⟩
  | .hbm, ⟨19, _⟩ => ⟨S10000, .i32⟩
  | .hbm, ⟨20, _⟩ => ⟨S10000, .i32⟩
  | .hbm, ⟨21, _⟩ => ⟨S10000, .i32⟩
  | .hbm, ⟨22, _⟩ => ⟨S10000x1, .i32⟩
  | .hbm, ⟨23, _⟩ => ⟨S_, .i32⟩
  | .hbm, ⟨24, _⟩ => ⟨S10000, .i32⟩
  | .hbm, ⟨25, _⟩ => ⟨S320000, .i32⟩
  | .hbm, ⟨26, _⟩ => ⟨S_, .i32⟩
  | .hbm, ⟨27, _⟩ => ⟨S_, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S1, .i32⟩
  | .hbm, ⟨41, _⟩ => ⟨S_, .i32⟩
  | .hbm, ⟨42, _⟩ => ⟨S320000x1, .i32⟩
  | .hbm, ⟨43, _⟩ => ⟨S320000x1, .i1⟩
  | .hbm, ⟨44, _⟩ => ⟨S1x1, .i32⟩
  | .hbm, ⟨45, _⟩ => ⟨S320000x1, .i32⟩
  | .hbm, ⟨46, _⟩ => ⟨S320000x1, .i1⟩
  | .hbm, ⟨47, _⟩ => ⟨S320000x1, .i1⟩
  | .hbm, ⟨48, _⟩ => ⟨S_, .i1⟩
  | .hbm, ⟨49, _⟩ => ⟨S320000, .i1⟩
  | .hbm, ⟨50, _⟩ => ⟨S320000, .i32⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S_, .f32⟩
  | .hbm, ⟨55, _⟩ => ⟨S10000x128, .f32⟩
  | .hbm, ⟨56, _⟩ => ⟨S320000x1, .i32⟩
  | .hbm, ⟨57, _⟩ => ⟨S10000x128, .f32⟩
  | .hbm, ⟨58, _⟩ => ⟨S10000x1, .i32⟩
  | .hbm, ⟨59, _⟩ => ⟨S10000x1, .f32⟩
  | .hbm, ⟨60, _⟩ => ⟨S10000x128, .f32⟩
  | .hbm, ⟨61, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== Proof.Counting.lean ====
/-
  Facts about natural numbers only, for rows that fall into consecutive groups of 32: how many multiples of 32 lie at
  or before a row, which is one more than the number of the row's group.
-/
module

public import Mathlib.Data.Nat.Count

@[expose] public section

namespace Cert.SegPool

/-- Of the first `G` multiples of 32, the number equal to `x` is 1 if `x` is one of them and else 0. -/
theorem count_starts (x G : Nat) :
    Nat.count (fun g => g * 32 = x) G = if x % 32 = 0 ∧ x / 32 < G then 1 else 0 := by
  induction G with
  | zero => rw [Nat.count_zero, if_neg (by omega)]
  | succ G ih =>
    rw [Nat.count_succ, ih]
    split_ifs <;> omega

/-- Summed over the rows `0 … n - 1`, the number of groups that start at each row is the number of groups begun
    before row `n`, as long as there are groups enough. -/
theorem sum_count_starts (G n : Nat) (hn : n ≤ G * 32) :
    ((List.range n).map fun x => Nat.count (fun g => g * 32 = x) G).sum = (n + 31) / 32 := by
  induction n with
  | zero => rfl
  | succ n ih =>
    rw [List.range_succ, List.map_append, List.sum_append, ih (by omega), List.map_singleton, List.sum_singleton, count_starts]
    split_ifs <;> omega

/-- The sizes `0, 32, 32, …` summed up to and including entry `g` give `32 g`. -/
theorem sum_sizes (g : Nat) :
    ((List.range (g + 1)).map fun k => if k = 0 then 0 else 32).sum = g * 32 := by
  induction g with
  | zero => rfl
  | succ g ih =>
    rw [List.range_succ, List.map_append, List.sum_append, ih, List.map_singleton, List.sum_singleton, if_neg (Nat.succ_ne_zero g)]
    omega

end Cert.SegPool
-- ==== Proof.Scatter.lean ====
/-
  Scatters that take their index words from a one-column array, at any extents: the scatter of scalars into a vector,
  which counts how often each entry is named, and the scatter of whole rows into a matrix, which sums into each row the
  rows whose index names it. Nothing here speaks of the kernel or of the reference.
-/
module

public import Idealize.ShloMosaic.Lib.Routing.Ops
public import Idealize.ShloMosaic.Lib.Routing.OpsPair
public import Idealize.ShloMosaic.PureOps.Ideal

@[expose] public section

noncomputable section

namespace Cert.SegPool

open Idealize.ShloMosaic Idealize.ShloMosaic.Routing Idealize.ShloMosaic.ValueIdx

variable {N M C w : Nat}

/-! ## Scalars into a vector -/

/-- Update `i`, a scalar, lands at entry `e` of the vector exactly when its index word, read signed, is `e`. -/
theorem lands_entry (d : ScatterDims (shape1 M) (shape2 N 1) (shape1 N)) (hiw : d.insertedWindowDims = [0])
    (hsd : d.scatterDimsToOperandDims = [0]) (hivd : d.indexVectorDim = 1) (idx : IVec (shape2 N 1) w) (i : Fin N) (e : Fin M) :
    d.resultIdx? (ix1 i) idx = some (ix1 e) ↔ (idx (ix2 i (0 : Fin 1))).toInt = (e.val : Int) := by
  have hm : (0 : Fin 1) ∈ d.scatterDimsToOperandDims := by rw [hsd]; exact List.mem_singleton.2 rfl
  have hsi : d.siIdx (ix1 i) ⟨d.scatterDimsToOperandDims.idxOf 0, List.idxOf_lt_length_iff.2 hm⟩ = ix2 i (0 : Fin 1) := by
    funext b
    match b with
    | ⟨0, _⟩ =>
      apply Fin.ext
      unfold ScatterDims.siIdx
      rw [dif_neg (by rw [hivd]; exact Nat.zero_ne_one)]
      unfold ScatterDims.siCoord
      exact congrArg (fun a : Fin 1 => (ix1 i a).val) (Subsingleton.elim _ (0 : Fin 1))
    | ⟨1, _⟩ => exact Subsingleton.elim (α := Fin 1) _ _
  have hstart : d.start (ix1 i) idx 0 = (idx (ix2 i (0 : Fin 1))).toInt := by
    unfold ScatterDims.start
    rw [dif_pos hm, hsi]
  have hwin : d.window (ix1 i) 0 = 0 := by
    unfold ScatterDims.window
    exact dif_neg fun h => (of_decide_eq_true (List.mem_filter.1 h).2) (by rw [hiw]; exact List.mem_singleton.2 rfl)
  rw [resultIdx?_ix1, hstart, hwin, Nat.cast_zero, add_zero]

/-- Adding a one into an all-zero vector of `M` entries for each of `N` index words: entry `e` counts the words that
    name it. -/
theorem scatter_ones (d : ScatterDims (shape1 M) (shape2 N 1) (shape1 N)) (hiw : d.insertedWindowDims = [0])
    (hsd : d.scatterDimsToOperandDims = [0]) (hivd : d.indexVectorDim = 1) (z : IVec (shape1 M) 32) (hz : ∀ i, z i = 0#32)
    (idx : IVec (shape2 N 1) 32) (upd : IVec (shape1 N) 32) (hupd : ∀ i, upd i = 1#32) (p : Nat → Nat)
    (hp : ∀ i : Fin N, idx (ix2 i (0 : Fin 1)) = BitVec.ofNat 32 (p i.val)) (hlt : ∀ i : Fin N, p i.val < 2 ^ 31) (e : Fin M) :
    Host.scatter d IntOp.addi z idx upd (ix1 e) = BitVec.ofNat 32 (Nat.count (fun i => p i = e.val) N) := by
  have hit : ∀ i : Fin N, d.resultIdx? (ix1 i) idx = some (ix1 e) ↔ p i.val = e.val := fun i => by
    rw [lands_entry d hiw hsd hivd, hp, StableHlo.Predicate.toInt_ofNat_small _ (hlt i)]
    exact Int.ofNat_inj
  rw [scatter_at, hz]
  have fold : ∀ (l : List (Fin (shape1 N).numel)) (a : Nat),
      l.foldl (fun a n => if d.resultIdx? ((shape1 N).rowMajor.symm n) idx = some (ix1 e) then IntOp.addi a (upd ((shape1 N).rowMajor.symm n)) else a)
          (BitVec.ofNat 32 a) = BitVec.ofNat 32 (a + l.countP fun n => decide (p n.val = e.val)) := by
    intro l
    induction l with
    | nil => intro a; rfl
    | cons n l ih =>
      intro a
      have hn := hit (n.cast (numel1 N))
      rw [← symm1] at hn
      rw [List.foldl_cons, List.countP_cons]
      by_cases h : p n.val = e.val
      · rw [if_pos (hn.2 h), hupd, if_pos (decide_eq_true h)]
        rw [show IntOp.addi (BitVec.ofNat 32 a) 1#32 = BitVec.ofNat 32 (a + 1) from (BitVec.ofNat_add a 1).symm, ih]
        congr 1; omega
      · rw [if_neg fun q => h (hn.1 q), if_neg (by simpa using h), ih, Nat.add_zero]
  refine (fold _ 0).trans (congrArg (BitVec.ofNat 32) ?_)
  rw [Nat.zero_add]
  exact (countP_finRange _ fun n => p n = e.val).trans (congrArg (Nat.count fun n => p n = e.val) (numel1 N))

/-! ## Rows into a matrix -/

/-- Entry `(i, j)` of the update rows lands at entry `(r, c)` of the matrix exactly when row `i`'s index word, read
    signed, is `r` and the columns agree. -/
theorem lands_row (d : ScatterDims (shape2 M C) (shape2 N 1) (shape2 N C)) (huw : d.updateWindowDims = [1])
    (hiw : d.insertedWindowDims = [0]) (hsd : d.scatterDimsToOperandDims = [0]) (hivd : d.indexVectorDim = 1)
    (idx : IVec (shape2 N 1) w) (i : Fin N) (j : Fin C) (r : Fin M) (c : Fin C) :
    d.resultIdx? (ix2 i j) idx = some (ix2 r c) ↔ (idx (ix2 i (0 : Fin 1))).toInt = (r.val : Int) ∧ j = c := by
  have hm : (0 : Fin 2) ∈ d.scatterDimsToOperandDims := by rw [hsd]; exact List.mem_singleton.2 rfl
  have hus : d.uScatter = [0] := by
    show (shape2 N C).kept d.updateWindowDims = _
    rw [huw]; rfl
  have hsk : d.sKept = [1] := by
    show (shape2 M C).kept d.insertedWindowDims = _
    rw [hiw]; rfl
  have only : ∀ (l : List (Fin 2)) (a : Fin 2) (n : Nat) (h : n < l.length), l = [a] → l[n]'h = a := by
    intro l a n h hl
    subst hl
    exact List.mem_singleton.1 (List.getElem_mem h)
  have hsi : d.siIdx (ix2 i j) ⟨d.scatterDimsToOperandDims.idxOf 0, List.idxOf_lt_length_iff.2 hm⟩ = ix2 i (0 : Fin 1) := by
    funext b
    match b with
    | ⟨0, _⟩ =>
      apply Fin.ext
      unfold ScatterDims.siIdx
      rw [dif_neg (by rw [hivd]; exact Nat.zero_ne_one)]
      unfold ScatterDims.siCoord
      rw [Fin.val_cast, only _ 0 _ _ hus]
    | ⟨1, _⟩ => exact Subsingleton.elim (α := Fin 1) _ _
  have hs0 : d.start (ix2 i j) idx 0 = (idx (ix2 i (0 : Fin 1))).toInt := by
    unfold ScatterDims.start
    rw [dif_pos hm, hsi]
  have hs1 : d.start (ix2 i j) idx 1 = 0 := by
    unfold ScatterDims.start
    exact dif_neg fun h => by rw [hsd] at h; exact absurd (List.mem_singleton.1 h) (by decide : (1 : Fin 2) ≠ 0)
  have hw0 : d.window (ix2 i j) 0 = 0 := by
    unfold ScatterDims.window
    exact dif_neg fun h => by rw [hsk] at h; exact absurd (List.mem_singleton.1 h) (by decide : (0 : Fin 2) ≠ 1)
  have hw1 : d.window (ix2 i j) 1 = j.val := by
    unfold ScatterDims.window
    rw [dif_pos (by rw [hsk]; exact List.mem_singleton.2 rfl), only _ 1 _ _ huw]
  rw [resultIdx?_ix2, hs0, hw0, hs1, hw1, Fin.ext_iff, Nat.cast_zero, add_zero, zero_add, Int.ofNat_inj]

/-- Summing rows into a matrix by index word, over the extended reals: where the rows whose index word is `r` are
    `row 0, …, row (K - 1)`, each once, entry `(r, c)` ends as it was plus the sum of those rows' entries in column `c`. -/
theorem scatter_rows {K : Nat} {φ : FTy} (d : ScatterDims (shape2 M C) (shape2 N 1) (shape2 N C)) (huw : d.updateWindowDims = [1])
    (hiw : d.insertedWindowDims = [0]) (hsd : d.scatterDimsToOperandDims = [0]) (hivd : d.indexVectorDim = 1)
    (x : FVec Ideal (shape2 M C) φ) (idx : IVec (shape2 N 1) w) (upd : FVec Ideal (shape2 N C) φ) (r : Fin M) (c : Fin C)
    (row : Fin K → Fin N) (hinj : Function.Injective row)
    (hrow : ∀ i : Fin N, (idx (ix2 i (0 : Fin 1))).toInt = (r.val : Int) ↔ ∃ k, row k = i) :
    Host.scatterAdd d x idx upd (ix2 r c) = (x (ix2 r c) + ∑ k : Fin K, upd (ix2 (row k) c) : EReal) := by
  unfold Host.scatterAdd
  rw [Ideal.hostScatterAdd_def]
  unfold Ideal.hostScatterAdd
  refine congrArg (x (ix2 r c) + ·) (Eq.symm ?_)
  refine Finset.sum_bij (fun k _ => ix2 (row k) c) (fun k _ => ?_) (fun k _ k' _ h => ?_) (fun j hj => ?_) (fun k _ => rfl)
  · exact Finset.mem_filter.2 ⟨Finset.mem_univ _, (lands_row d huw hiw hsd hivd idx _ _ r c).2 ⟨(hrow _).2 ⟨k, rfl⟩, rfl⟩⟩
  · exact hinj (congrFun h 0)
  · have hj' := (Finset.mem_filter.1 hj).2
    rw [eq_ix2 j] at hj' ⊢
    obtain ⟨h0, h1⟩ := (lands_row d huw hiw hsd hivd idx (j 0) (j 1) r c).1 hj'
    obtain ⟨k, hk⟩ := (hrow _).1 h0
    exact ⟨k, Finset.mem_univ _, by rw [hk, h1]; rfl⟩

end Cert.SegPool

end
-- ==== Proof.SegmentIds.lean ====
/-
  The segment number of every row, as the reference computes it from the group sizes: the sizes shifted by one place,
  their running sums (each group's first row), a one at each first row, the running count of those ones less one, and a
  table look-up. Where every size is 32, row `i` is in segment `i / 32`.
-/
module

public import proofs.«01_k».proof.Proof.Gen.ReferenceIdeal
public import proofs.«01_k».proof.Proof.Counting
public import proofs.«01_k».proof.Proof.Scatter
public import Idealize.ShloMosaic.Lib.Routing.OpsOne
public import Idealize.ShloMosaic.Lib.Routing.OpsSet
public import Idealize.ShloMosaic.Lib.Pipeline.Value
public import Idealize.ShloMosaic.Lib.ReduceAll
public import Idealize.ShloMosaic.Lib.Pointwise

@[expose] public section

noncomputable section

namespace Cert.SegPool

open Cert.ReferenceIdeal Cert.ReferenceIdeal.Gen
open Idealize.ShloMosaic hiding ix0 ix1 ix2 ix3
open Idealize.ShloMosaic.Routing Idealize.ShloMosaic.ValueIdx

/-! ## The stages of the computation -/

/-- The sizes moved one place to the right, the last one coming first. -/
def shifted (s : IVec S10000 32) : IVec S10000 32 :=
  concatenate S10000 0 [⟨S1, (extractStridedSlice S1 ![9999] s slices_S10000_S1_9999)⟩,
    ⟨S9999, (extractStridedSlice S9999 ![0] s slices_S10000_S9999_0)⟩] concatenates_S1_S9999_S10000_d0

/-- The shifted sizes with entry 0 set to zero: entry `g` is the size of the group before `g`. -/
def before (s : IVec S10000 32) : IVec S10000 32 :=
  Host.scatter scatter_S10000_S1_S__n_0_0_0 (fun _ b => b) (shifted s)
    (broadcastInDim S1 ![] bcast_S_S1 (constantI S_ 32 0#32)) (constantI S_ 32 0#32)

/-- Each group's first row: the running sums of the sizes before it. -/
def starts (s : IVec S10000 32) : IVec S10000 32 :=
  Host.reduceWindow IntOp.addi ![10000] ![1] ![9999] ![0] (before s)
    (broadcastInDim S_ ![] bcast_S_S_ (constantI S_ 32 0#32)) reduceWindows_S10000_S10000_w10000s1p9999_0 h_S_

/-- How many groups start at each row. -/
def marks (s : IVec S10000 32) : IVec S320000 32 :=
  Host.scatter scatter_S320000_S10000x1_S10000_n_0_0_1 IntOp.addi
    (broadcastInDim S320000 ![] bcast_S_S320000 (constantI S_ 32 0#32))
    (broadcastInDim S10000x1 ![0] bcast_S10000_S10000x1_0
      (select (cmpi .slt (starts s) (broadcastInDim S10000 ![] bcast_S_S10000 (constantI S_ 32 0#32)))
        (addi (starts s) (broadcastInDim S10000 ![] bcast_S_S10000 (constantI S_ 32 320000#32))) (starts s)))
    (broadcastInDim S10000 ![] bcast_S_S10000 (constantI S_ 32 1#32))

/-- The number of groups begun at or before each row, less one. -/
def begun (s : IVec S10000 32) : IVec S320000 32 :=
  subi (Host.reduceWindow IntOp.addi ![320000] ![1] ![319999] ![0] (marks s)
      (broadcastInDim S_ ![] bcast_S_S_ (constantI S_ 32 0#32)) reduceWindows_S320000_S320000_w320000s1p319999_0 h_S_)
    (broadcastInDim S320000 ![] bcast_S_S320000 (constantI S_ 32 1#32))

/-- The same as a column of look-up indices, a negative one counted from the table's end. -/
def lookup (s : IVec S10000 32) : IVec S320000x1 32 :=
  broadcastInDim S320000x1 ![0] bcast_S320000_S320000x1_0
    (select (cmpi .slt (begun s) (broadcastInDim S320000 ![] bcast_S_S320000 (constantI S_ 32 0#32)))
      (addi (begun s) (broadcastInDim S320000 ![] bcast_S_S320000 (constantI S_ 32 10000#32))) (begun s))

/-- Whether each look-up index lies in the table, `0 … 9999`. -/
def inTable (s : IVec S10000 32) : IVec S320000 1 :=
  Host.reduce IntOp.andi
    (andi (cmpi .sge (lookup s) (broadcastInDim S320000x1 ![] bcast_S_S320000x1 (constantI S_ 32 0#32)))
      (cmpi .sle (lookup s) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The segment number of each row: the entry of the table `0, 1, …, 9999` at its look-up index, or the least 32-bit
    integer where that index is outside the table. -/
def segIds (s : IVec S10000 32) : IVec S320000 32 :=
  select (inTable s)
    (Host.gather gather_S10000_S320000x1_S320000_n_0_n_n_0_1_1 (iotaInDim S10000 32 0) (lookup s))
    (broadcastInDim S320000 ![] bcast_S_S320000 (constantI S_ 32 2147483648#32))

/-! ## Their values where every size is 32 -/

variable {s : IVec S10000 32}

/-- Moving equal sizes about leaves them equal. -/
theorem shifted_eq (hs : ∀ i, s i = 32#32) (i : S10000.Idx) : shifted s i = 32#32 := by
  unfold shifted
  rw [concatenate_pair_apply]
  split <;> exact hs _

/-- Entry 0 is zero and every other entry 32. -/
theorem before_eq (hs : ∀ i, s i = 32#32) (g : Fin 10000) :
    before s (ix1 g) = BitVec.ofNat 32 (if g.val = 0 then 0 else 32) := by
  have h := scatter_one (N := 10000) scatter_S10000_S1_S__n_0_0_0 rfl rfl (shifted s)
    (broadcastInDim S1 ![] bcast_S_S1 (constantI S_ 32 0#32)) (constantI S_ 32 0#32) 0 (by norm_num) (bc0 _ _ _) g
  refine h.trans ?_
  by_cases hg : g.val = 0
  · rw [if_pos hg, if_pos (Fin.ext hg)]; rfl
  · rw [if_neg hg, if_neg fun e => hg (congrArg Fin.val e), shifted_eq hs]

/-- Group `g` starts at row `32 g`. -/
theorem starts_eq (hs : ∀ i, s i = 32#32) (g : Fin 10000) : starts s (ix1 g) = BitVec.ofNat 32 (g.val * 32) := by
  have h := cumsum1 (N := 10000) (Nm1 := 9999) rfl (before s) (fun k => if k = 0 then 0 else 32) (before_eq hs)
    (broadcastInDim S_ ![] bcast_S_S_ (constantI S_ 32 0#32)) (bc0 _ _ _) reduceWindows_S10000_S10000_w10000s1p9999_0 h_S_ g
  rw [sum_sizes] at h
  exact h

/-- Row `x` has as many marks as there are groups `g` with `32 g = x`. -/
theorem marks_eq (hs : ∀ i, s i = 32#32) (x : Fin 320000) :
    marks s (ix1 x) = BitVec.ofNat 32 (Nat.count (fun g => g * 32 = x.val) 10000) := by
  refine scatter_ones (N := 10000) (M := 320000) scatter_S320000_S10000x1_S10000_n_0_0_1 rfl rfl rfl _ (fun i => bc0 _ _ _)
    _ _ (fun i => bc0 _ _ _) (fun g => g * 32) (fun g => ?_) (fun g => ?_) x
  · refine (bcCol _ _ g).trans ?_
    refine (wrap_of_lt _ _ ?_).trans (starts_eq hs g)
    rw [starts_eq hs g, BitVec.toNat_ofNat]
    have := g.isLt
    omega
  · have := g.isLt
    show g.val * 32 < 2 ^ 31
    omega

/-- Row `i` lies in the group `i / 32`, counted from zero. -/
theorem begun_eq (hs : ∀ i, s i = 32#32) (i : Fin 320000) : begun s (ix1 i) = BitVec.ofNat 32 (i.val / 32) := by
  have h := cumsum1 (N := 320000) (Nm1 := 319999) rfl (marks s) (fun x => Nat.count (fun g => g * 32 = x) 10000) (marks_eq hs)
    (broadcastInDim S_ ![] bcast_S_S_ (constantI S_ 32 0#32)) (bc0 _ _ _) reduceWindows_S320000_S320000_w320000s1p319999_0 h_S_ i
  have hi := i.isLt
  rw [sum_count_starts 10000 _ (by omega), show (i.val + 1 + 31) / 32 = i.val / 32 + 1 by omega] at h
  refine (congrArg (fun y => y - 1#32) h).trans ?_
  rw [BitVec.ofNat_add]
  exact BitVec.add_sub_cancel _ _

/-- So its look-up index is `i / 32`: none is negative. -/
theorem lookup_eq (hs : ∀ i, s i = 32#32) (i : Fin 320000) :
    lookup s (ix2 i (0 : Fin 1)) = BitVec.ofNat 32 (i.val / 32) := by
  refine (bcCol _ _ i).trans ?_
  refine (wrap_of_lt _ _ ?_).trans (begun_eq hs i)
  rw [begun_eq hs i, BitVec.toNat_ofNat]
  have := i.isLt
  omega

/-- Every look-up index lies in the table. -/
theorem inTable_eq (hs : ∀ i, s i = 32#32) (j : S320000.Idx) : inTable s j = 1#1 := by
  refine Host.reduce_andi_one _ _ _ _ j rfl fun i => ?_
  obtain ⟨p, q, rfl⟩ : ∃ (p : Fin 320000) (q : Fin 1), i = ix2 p q := ⟨i 0, i 1, ValueIdx.eq_ix2 i⟩
  obtain rfl : q = 0 := Subsingleton.elim _ _
  have hp := p.isLt
  show IntOp.andi (IntOp.cmpi .sge (lookup s (ix2 p 0)) _) (IntOp.cmpi .sle (lookup s (ix2 p 0)) 9999#32) = 1#1
  rw [lookup_eq hs p]
  have h0 : IntOp.cmpi .sge (BitVec.ofNat 32 (p.val / 32)) 0#32 = 1#1 := by
    show BitVec.ofBool ((BitVec.ofNat 32 0).sle (BitVec.ofNat 32 (p.val / 32))) = 1#1
    exact (StableHlo.Predicate.sle_ofNat_iff 0 (p.val / 32) (by norm_num) (by omega)).2 (Nat.zero_le _)
  have h1 : IntOp.cmpi .sle (BitVec.ofNat 32 (p.val / 32)) 9999#32 = 1#1 :=
    (StableHlo.Predicate.sle_ofNat_iff (p.val / 32) 9999 (by omega) (by norm_num)).2 (by omega)
  rw [h1]
  exact (congrArg (fun y => IntOp.andi y 1#1) h0)

/-- THE SEGMENT NUMBERS: where every size is 32, row `i` is in segment `i / 32`. -/
theorem segIds_eq (hs : ∀ i, s i = 32#32) (i : Fin 320000) : segIds s (ix1 i) = BitVec.ofNat 32 (i.val / 32) := by
  have hi := i.isLt
  have h := gather_take1 (N := 10000) (n := 320000) gather_S10000_S320000x1_S320000_n_0_n_n_0_1_1 rfl rfl rfl rfl
    (iotaInDim S10000 32 0) (lookup s) i ⟨i.val / 32, by omega⟩ (lookup_eq hs i) (by norm_num)
  unfold segIds select
  rw [inTable_eq hs, h, Scalar.select, if_pos (show (1#1 : BitVec 1) = 1 from rfl)]
  rfl

end Cert.SegPool

end
-- ==== Proof.ReferenceValue.lean ====
/-
  What the reference computes where every group size is 32: entry `(b, j)` of its result is the sum of the 32 rows
  `32 b, …, 32 b + 31` of column `j`, divided by 32.
-/
module

public import proofs.«01_k».proof.Proof.Gen.ReferenceIdeal.Run
public import proofs.«01_k».proof.Proof.SegmentIds

@[expose] public section

noncomputable section

namespace Cert.SegPool

open Cert.ReferenceIdeal Cert.ReferenceIdeal.Gen Idealize.SL.Sem
open Idealize.ShloMosaic hiding ix0 ix1 ix2 ix3
open Idealize.ShloMosaic.TcCoe
open Idealize.ShloMosaic.Routing Idealize.ShloMosaic.ValueIdx

/-- Row `k` of group `b`: row `32 b + k` of the data. -/
def dataRow (b : Fin 10000) (k : Fin 32) : Fin 320000 := ⟨b.val * 32 + k.val, by have := b.isLt; have := k.isLt; omega⟩

/-- THE MEAN OF EACH GROUP, over the extended reals: the sum of the group's 32 rows, column by column, divided by 32. -/
def groupMean (x : FVec Ideal S320000x128 .f32) : FVec Ideal S10000x128 .f32 := fun i =>
  Ideal.div (∑ k : Fin 32, x (ix2 (dataRow (i 0) k) (i 1))) ((32 : ℝ) : EReal)

/-- The rows of the data summed into the group their segment number names. -/
def groupSums (x : FVec Ideal S320000x128 .f32) (s : IVec S10000 32) : FVec Ideal S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 (segIds s)) x

/-- The group sizes as numbers, each repeated along its row. -/
def sizeRows (s : IVec S10000 32) : FVec Ideal S10000x128 .f32 :=
  broadcastInDim S10000x128 ![0, 1] bcast_S10000x1_S10000x128_0_1
    (sitofp .f32 (broadcastInDim S10000x1 ![0] bcast_S10000_S10000x1_0 s))

/-- The reference's result is the group sums divided by the sizes, entry by entry. -/
theorem reference_eq (m : (ℓ : Loc nD τ sig) → Buf (Elt Ideal) ℓ) (c : Dev nD) :
    Cert.ReferenceIdeal.Value.res_out0 m c
      = Host.divf (groupSums (m ((c.tc : Thread nD τ).loc main_arg0)) (m ((c.tc : Thread nD τ).loc main_arg1)))
          (sizeRows (m ((c.tc : Thread nD τ).loc main_arg1))) := rfl

variable {s : IVec S10000 32}

/-- A row's segment number is `b` exactly for the 32 rows of group `b`. -/
theorem segment_iff (b : Fin 10000) (i : Fin 320000) :
    (BitVec.ofNat 32 (i.val / 32)).toInt = (b.val : Int) ↔ ∃ k, dataRow b k = i := by
  have hi := i.isLt
  rw [StableHlo.Predicate.toInt_ofNat_small _ (by omega), Int.ofNat_inj]
  constructor
  · intro h
    exact ⟨⟨i.val % 32, Nat.mod_lt _ (by norm_num)⟩, Fin.ext (by show b.val * 32 + i.val % 32 = i.val; omega)⟩
  · rintro ⟨k, rfl⟩
    have := k.isLt
    show (b.val * 32 + k.val) / 32 = b.val
    omega

/-- Distinct positions in a group are distinct rows. -/
theorem dataRow_injective (b : Fin 10000) : Function.Injective (dataRow b) := fun k k' e => by
  have : b.val * 32 + k.val = b.val * 32 + k'.val := congrArg Fin.val e
  exact Fin.ext (by omega)

/-- Summing the rows of the data, from zero, into the groups a column of index words names, where row `i`'s word is
    `i / 32`: entry `(b, j)` is the sum of column `j` over the 32 rows of group `b`. -/
theorem scatter_groups (d : ScatterDims (shape2 10000 128) (shape2 320000 1) (shape2 320000 128)) (huw : d.updateWindowDims = [1])
    (hiw : d.insertedWindowDims = [0]) (hsd : d.scatterDimsToOperandDims = [0]) (hivd : d.indexVectorDim = 1)
    (z : FVec Ideal (shape2 10000 128) .f32) (hz : ∀ i, z i = (0 : EReal)) (idx : IVec (shape2 320000 1) 32)
    (hidx : ∀ i : Fin 320000, idx (ix2 i (0 : Fin 1)) = BitVec.ofNat 32 (i.val / 32))
    (x : FVec Ideal (shape2 320000 128) .f32) (b : Fin 10000) (j : Fin 128) :
    Host.scatterAdd d z idx x (ix2 b j) = (∑ k : Fin 32, x (ix2 (dataRow b k) j) : EReal) := by
  rw [scatter_rows d huw hiw hsd hivd z idx x b j (dataRow b) (dataRow_injective b)
    (fun i => by rw [hidx]; exact segment_iff b i), hz, zero_add]

/-- The sums: entry `(b, j)` is the sum of column `j` over the 32 rows of group `b`. -/
theorem groupSums_eq (x : FVec Ideal S320000x128 .f32) (hs : ∀ i, s i = 32#32) (b : Fin 10000) (j : Fin 128) :
    groupSums x s (ix2 b j) = (∑ k : Fin 32, x (ix2 (dataRow b k) j) : EReal) := by
  unfold groupSums
  have hidx : ∀ i : Fin 320000,
      broadcastInDim S320000x1 ![0] bcast_S320000_S320000x1_0 (segIds s) (ix2 i (0 : Fin 1)) = BitVec.ofNat 32 (i.val / 32) :=
    fun i => (bcCol _ _ i).trans (segIds_eq hs i)
  have hz : ∀ i : S10000x128.Idx,
      broadcastInDim S10000x128 ![] bcast_S_S10000x128 (constant (F := Ideal) S_ .f32 0x00000000#32) i = (0 : EReal) :=
    fun i => (bc0 _ _ i).trans Ideal.ofBits_zero_f32
  generalize broadcastInDim S320000x1 ![0] bcast_S320000_S320000x1_0 (segIds s) = idx at hidx ⊢
  generalize broadcastInDim S10000x128 ![] bcast_S_S10000x128 (constant (F := Ideal) S_ .f32 0x00000000#32) = z at hz ⊢
  exact scatter_groups scatter_S10000x128_S320000x1_S320000x128_1_0_0_1 rfl rfl rfl rfl z hz idx hidx x b j

/-- The sizes: every entry is the number 32. -/
theorem sizeRows_eq (hs : ∀ i, s i = 32#32) (i : S10000x128.Idx) : sizeRows s i = ((32 : ℝ) : EReal) := by
  refine (congrArg (Scalar.sitofp (F := Ideal) .f32) (hs _)).trans ?_
  rw [Ideal.scalar_sitofp_def, show (32#32 : BitVec 32).toInt = 32 by decide]
  norm_num

/-- THE REFERENCE'S RESULT where every size is 32: the mean of each group. -/
theorem reference_value (m : (ℓ : Loc nD τ sig) → Buf (Elt Ideal) ℓ) (c : Dev nD)
    (hs : ∀ i, (m ((c.tc : Thread nD τ).loc main_arg1) : IVec S10000 32) i = 32#32) :
    Cert.ReferenceIdeal.Value.res_out0 m c = groupMean (m ((c.tc : Thread nD τ).loc main_arg0)) := by
  rw [reference_eq]
  funext i
  obtain ⟨b, j, rfl⟩ : ∃ (b : Fin 10000) (j : Fin 128), i = ix2 b j := ⟨i 0, i 1, ValueIdx.eq_ix2 i⟩
  show Ideal.div (groupSums _ _ (ix2 b j)) (sizeRows _ (ix2 b j)) = _
  rw [groupSums_eq _ hs, sizeRows_eq hs]
  rfl

end Cert.SegPool

end
-- ==== Proof.BlockValue.lean ====
/-
  What one block of the kernel computes, over the extended reals: entry `(r, j)` of the stored block is the sum of rows
  `32 r, …, 32 r + 31` of column `j` of the block of data, times entry `r` of the block of reciprocals.
-/
module

public import proofs.«01_k».proof.Proof.Gen.KernelIdeal.Value
public import Idealize.ShloMosaic.Lib.Routing.Ops
public import Idealize.ShloMosaic.PureOps.Ideal.Laws

@[expose] public section

noncomputable section

namespace Cert.SegPool

open Cert.KernelIdeal Cert.KernelIdeal.Gen
open Idealize.ShloMosaic
open Idealize.ShloMosaic.Routing Idealize.ShloMosaic.ValueIdx

/-- Row `k` of group `r` inside a block of 80 groups: row `32 r + k` of its 2560 rows. -/
def blockRow (r : Fin 80) (k : Fin 32) : Fin 2560 := ⟨r.val * 32 + k.val, by have := r.isLt; have := k.isLt; omega⟩

/-- The block of data seen as 80 groups of 32 rows: entry `(r, k, j)` is entry `(32 r + k, j)`. -/
theorem groups_eq (x : FVec Ideal S2560x128 .f32) (r : Fin 80) (k : Fin 32) (j : Fin 128) :
    shapeCast S80x32x128 x shapeCasts_S2560x128_S80x32x128 (ix3 r k j) = x (ix2 (blockRow r k) j) := by
  refine shapeCast_apply x _ _ _ ?_
  rw [Shape.rowMajor_val_two, Shape.rowMajor_val_three]
  rfl

/-- Summing the groups: entry `(r, j)` is the sum of column `j` over the 32 rows of group `r`. -/
theorem blockSums_eq (x : FVec Ideal S2560x128 .f32) (r : Fin 80) (j : Fin 128) :
    multiReduction .add [1] S80x128 (shapeCast S80x32x128 x shapeCasts_S2560x128_S80x32x128) 0x00000000#32
        reduces_S80x32x128_S80x128 (.inl rfl) rfl (ix2 r j)
      = (∑ k : Fin 32, x (ix2 (blockRow r k) j) : EReal) := by
  refine (Ideal.multiReduction_add_single _ _ reduces_S80x32x128_S80x128 (.inl rfl) rfl (ix2 r j)).trans ?_
  refine Finset.sum_congr rfl fun k _ => ?_
  have h : reduces_S80x32x128_S80x128.lift (ix2 r j) k = (ix3 r k j : S80x32x128.Idx) := by
    funext a
    fin_cases a <;> rfl
  rw [h]
  exact groups_eq x r k j

/-- THE BLOCK: the group sums times the group's reciprocal. -/
theorem block_value (x : FVec Ideal S2560x128 .f32) (v : FVec Ideal S80x1 .f32) (r : Fin 80) (j : Fin 128) :
    out0_2 (F := Ideal) x v (ix2 r j) = (∑ k : Fin 32, x (ix2 (blockRow r k) j) : EReal) * v (ix2 r (0 : Fin 1)) := by
  have hz : (![0, 0] : Fin 2 → Nat) = fun _ => 0 := funext fun a => by fin_cases a <;> rfl
  unfold out0_2
  rw [View.ld_unit_zero hz, View.ld_unit_zero hz, Value.canon2_eq]
  have e0 : Value.ix2_0 (ix2 r j) = (ix2 r j : S80x128.Idx) := by funext a; fin_cases a <;> rfl
  have e1 : Value.ix2_1 (ix2 r j) = (ix2 r (0 : Fin 1) : S80x1.Idx) := by funext a; fin_cases a <;> rfl
  unfold Value.E2
  rw [e0, e1, blockSums_eq]
  rfl

end Cert.SegPool

end
-- ==== Proof.KernelValue.lean ====
/-
  What the kernel's result array holds where every group size is 32, over the extended reals: entry `(b, j)` is the sum
  of column `j` over the 32 rows of group `b`, times the number 1 divided by 32.
-/
module

public import proofs.«01_k».proof.Proof.BlockValue
public import proofs.«01_k».proof.Proof.ReferenceValue
public import Idealize.ShloMosaic.Lib.Pipeline.ValueKit
public import Idealize.ShloMosaic.Lib.IdealHost

@[expose] public section

noncomputable section

namespace Cert.SegPool

open Cert.KernelIdeal Cert.KernelIdeal.Gen Idealize.SL.Sem
open Idealize.ShloMosaic hiding ix0 ix1 ix2 ix3
open Idealize.ShloMosaic.TcCoe
open Idealize.ShloMosaic.Routing Idealize.ShloMosaic.ValueIdx

variable (m : (ℓ : Loc nD τ sig) → Buf (Elt Ideal) ℓ) (c : Dev nD)

/-- The reciprocals of the group sizes, as a column: one divided by each size. -/
def reciprocals (s : IVec S10000 32) : FVec Ideal S10000x1 .f32 :=
  shapeCast S10000x1 (Host.divf (broadcastInDim S10000 ![] bcast_S_S10000 (constant S_ .f32 0x3F800000#32)) (sitofp .f32 s))
    shapeCasts_S10000_S10000x1

/-- The second array the kernel reads holds the reciprocals of the sizes. -/
theorem entry_reciprocals : V m c main_v3 = reciprocals (m ((c : Thread nD τ).loc main_arg1)) := by
  unfold V
  after_results_simp
  rfl

/-- Where every size is 32, every reciprocal is 1 divided by 32. -/
theorem reciprocals_eq (s : IVec S10000 32) (hs : ∀ i, s i = 32#32) (b : Fin 10000) :
    reciprocals s (ix2 b (0 : Fin 1)) = Ideal.div 1 ((32 : ℝ) : EReal) := by
  unfold reciprocals
  refine (cast12 _ _ b (0 : Fin 1) b (by simp)).trans ?_
  show Ideal.div (broadcastInDim S10000 ![] bcast_S_S10000 (constant (F := Ideal) S_ .f32 0x3F800000#32) (ix1 b))
    (Scalar.sitofp (F := Ideal) .f32 (s (ix1 b))) = _
  rw [hs, Ideal.scalar_sitofp_def, show (32#32 : BitVec 32).toInt = 32 by decide,
    show broadcastInDim S10000 ![] bcast_S_S10000 (constant (F := Ideal) S_ .f32 0x3F800000#32) (ix1 b) = (1 : EReal)
      from (bc0 _ _ _).trans Ideal.ofBits_one_f32]
  norm_num

/-- The block of each of the three arrays at point `t` is the `t`-th one down the rows. -/
theorem index_data : ∀ t : Fin grid0.N, win0_0.index t 0 = t.val ∧ win0_0.index t 1 = 0 := by decide +kernel
theorem index_recip : ∀ t : Fin grid0.N, win0_1.index t 0 = t.val ∧ win0_1.index t 1 = 0 := by decide +kernel
theorem index_out : ∀ t : Fin grid0.N, win0_2.index t 0 = t.val ∧ win0_2.index t 1 = 0 := by decide +kernel

/-- Group `r` of block `t` is group `80 t + r` of the whole array. -/
def groupOf (t : Fin cfg0.N) (r : Fin 80) : Fin 10000 :=
  ⟨t.val * 80 + r.val, by have hN : cfg0.N = 125 := rfl; have := t.isLt; have := r.isLt; omega⟩

/-- The block of data at point `t`: row `k` of its group `r` is row `k` of group `80 t + r`. -/
theorem data_block (t : Fin cfg0.N) (r : Fin 80) (k : Fin 32) (j : Fin 128) :
    iblk m c 0 t (ix2 (blockRow r k) j) = m ((c : Thread nD τ).loc main_arg0) (ix2 (dataRow (groupOf t r) k) j) := by
  unfold iblk
  rw [View.read_apply]
  show V m c main_arg0 _ = _
  rw [V_main_arg0]
  congr 1
  funext a
  apply Fin.ext
  match a with
  | ⟨0, _⟩ =>
    show win0_0.index t 0 * 2560 + 1 * (r.val * 32 + k.val) = (t.val * 80 + r.val) * 32 + k.val
    rw [(index_data t).1]; omega
  | ⟨1, _⟩ =>
    show win0_0.index t 1 * 128 + 1 * j.val = j.val
    rw [(index_data t).2]; omega

/-- The block of reciprocals at point `t`: entry `r` is the reciprocal of group `80 t + r`. -/
theorem recip_block (t : Fin cfg0.N) (r : Fin 80) :
    iblk m c 1 t (ix2 r (0 : Fin 1)) = reciprocals (m ((c : Thread nD τ).loc main_arg1)) (ix2 (groupOf t r) (0 : Fin 1)) := by
  rw [← entry_reciprocals]
  unfold iblk
  rw [View.read_apply]
  show V m c main_v3 _ = V m c main_v3 _
  congr 1
  funext a
  apply Fin.ext
  match a with
  | ⟨0, _⟩ =>
    show win0_1.index t 0 * 80 + 1 * r.val = t.val * 80 + r.val
    rw [(index_recip t).1]; omega
  | ⟨1, _⟩ =>
    show win0_1.index t 1 * 1 + 1 * 0 = 0
    rw [(index_recip t).2]

/-- THE GROUP SUMS, EACH TIMES THE RECIPROCAL OF 32. -/
def scaledSums (x : FVec Ideal S320000x128 .f32) : FVec Ideal S10000x128 .f32 := fun i =>
  ((∑ k : Fin 32, x (ix2 (dataRow (i 0) k) (i 1))) * Ideal.div 1 ((32 : ℝ) : EReal) : EReal)

/-- THE KERNEL'S RESULT where every size is 32: each group's sum times the reciprocal of 32. -/
theorem kernel_value (hs : ∀ i, (m ((c : Thread nD τ).loc main_arg1) : IVec S10000 32) i = 32#32) :
    (dats m 0 c).arrAt 2 cfg0.N = scaledSums (m ((c : Thread nD τ).loc main_arg0)) := by
  refine (dats m 0 c).arrAt_eq_of_covers 2 _ (by decide +kernel) fun t _ y => ?_
  obtain ⟨r, j, rfl⟩ : ∃ (r : Fin 80) (j : Fin 128), y = ix2 r j := ⟨y 0, y 1, ValueIdx.eq_ix2 y⟩
  have hy : ((cfg0.win 2).blk t).view.emb (ix2 r j) = (ix2 (groupOf t r) j : S10000x128.Idx) := by
    funext a
    apply Fin.ext
    match a with
    | ⟨0, _⟩ =>
      show win0_2.index t 0 * 80 + 1 * r.val = t.val * 80 + r.val
      rw [(index_out t).1]; omega
    | ⟨1, _⟩ =>
      show win0_2.index t 1 * 128 + 1 * j.val = j.val
      rw [(index_out t).2]; omega
  rw [hy, after0_2]
  refine (block_value _ _ r j).trans ?_
  rw [recip_block, reciprocals_eq _ hs]
  unfold scaledSums
  congr 1
  exact Finset.sum_congr rfl fun k _ => data_block m c t r k j

end Cert.SegPool

end
-- ==== Proof.Equation.lean ====
/-
  The two results agree over the extended reals: a group's sum times the reciprocal of 32 is that sum divided by 32.
-/
module

public import proofs.«01_k».proof.Proof.KernelValue

@[expose] public section

noncomputable section

namespace Cert.SegPool

open Idealize.ShloMosaic

/-- Multiplying by the quotient of 1 and a number other than zero is dividing by that number. -/
theorem mul_div_one (x y : EReal) (hy : y ≠ 0) : x * Ideal.div 1 y = Ideal.div x y := by
  unfold Ideal.div
  rw [if_neg hy, if_neg hy, one_mul]

/-- So the kernel's result is the reference's: each group's mean. -/
theorem scaledSums_eq_groupMean (x : FVec Ideal Cert.ReferenceIdeal.S320000x128 .f32) : scaledSums x = groupMean x := by
  funext i
  unfold scaledSums groupMean
  exact mul_div_one _ _ (by norm_num)

end Cert.SegPool

end
-- ==== Proof.Precondition.lean ====
/-
  The precondition in plain terms: the predicate is one exactly where every group size compares equal to 32, so where it
  holds every size is the integer 32.
-/
module

public import proofs.«01_k».proof.Proof.Gen.Pre_sizes_uniform
public import Idealize.ShloMosaic.Lib.ReduceAll
public import Idealize.ShloMosaic.PureOps.Ideal

@[expose] public section

noncomputable section

namespace Cert.SegPool

open Idealize.ShloMosaic

/-- An integer whose comparison with 32 reads one is 32. -/
theorem eq_of_cmpi_one (a : BitVec 32) (h : IntOp.cmpi .eq a 32#32 = 1#1) : a = 32#32 := by
  by_contra hne
  have hz : IntOp.cmpi .eq a 32#32 = 0#1 := by
    show BitVec.ofBool (a == 32#32) = 0#1
    rw [beq_eq_false_iff_ne.mpr hne]
    rfl
  rw [hz] at h
  exact absurd h (by decide)

/-- Where the predicate is one, every group size is 32. -/
theorem sizes_of_pre (x : FVec Ideal Cert.Pre_sizes_uniform.S320000x128 .f32) (s : IVec Cert.Pre_sizes_uniform.S10000 32)
    (h : Cert.Pre_sizes_uniform.fn x s = fun _ => 1#1) (i : Cert.Pre_sizes_uniform.S10000.Idx) : s i = 32#32 := by
  haveI : Subsingleton Cert.Pre_sizes_uniform.S_.Idx := ⟨fun a b => funext fun d : Fin 0 => d.elim0⟩
  refine eq_of_cmpi_one _ ?_
  exact Host.reduce_andi_all _ _ _ _ (fun d : Fin 0 => d.elim0) (congrFun h _) i

end Cert.SegPool

end
-- ==== Proof.lean ====
/-
  The proof of the certificate's claim: the kernel, over bits and over the extended reals, and the reference each run,
  leave their arguments as they were and end with every semaphore at zero; and where every group size is 32 the kernel's
  whole result equals the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_sizes_uniform
public import proofs.«01_k».proof.Proof.ReferenceValue
public import proofs.«01_k».proof.Proof.KernelValue
public import proofs.«01_k».proof.Proof.Equation
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and ends with every semaphore at zero, whatever the initial memory. -/
theorem reference_frame : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- Where every group size is 32, kernel and reference end with the same result: each group's mean. -/
theorem equal_results : Cert.algebraic_KernelIdeal_ReferenceIdeal_pre_sizes_uniform
    (hKernelIdeal := Cert.KernelIdeal.Gen.facts) (hReferenceIdeal := Cert.ReferenceIdeal.Gen.facts)
    (hPre_sizes_uniform := Cert.Pre_sizes_uniform.Gen.facts) := by
  intro m ρ m' ρ' hpre hargs
  have hs := fun c => Cert.SegPool.sizes_of_pre _ _ (hpre c)
  refine ⟨fun c => Cert.SegPool.groupMean
      (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Value.run_blocks (F := Ideal) m ρ)
    refine ⟨(h c).1.trans ?_, (h c).2⟩
    exact (Cert.SegPool.kernel_value m c (hs c)).trans (Cert.SegPool.scaledSums_eq_groupMean _)
  · refine (θ_run Cert.ReferenceIdeal.defs _ _).mono (fun r h c => ?_) (Cert.ReferenceIdeal.Value.run (F := Ideal) m' ρ')
    refine ⟨(h c).1.trans ?_, (h c).2⟩
    refine (Cert.SegPool.reference_value m' c fun i => ?_).trans ?_
    · rw [(hargs c).2]; exact hs c i
    · rw [(hargs c).1]

/-- Every claim of the certificate. -/
theorem claim : Cert.Claim :=
  ⟨Cert.Kernel.Gen.facts, Cert.KernelIdeal.Gen.facts, Cert.ReferenceIdeal.Gen.facts, Cert.Pre_sizes_uniform.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    equal_results⟩

end Cert.Proof

end
